-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_distinct [hPre_top_distinct : Cert.Pre_top_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_distinct [hPre_top_distinct : Cert.Pre_top_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_top_distinct [hKernelIdeal : Cert.KernelIdeal.Facts] [hPre_top_distinct : Cert.Pre_top_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_top_distinct [hReferenceIdeal : Cert.ReferenceIdeal.Facts] [hPre_top_distinct : Cert.Pre_top_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_top_distinct [hKernelIdeal : Cert.KernelIdeal.Facts] [hReferenceIdeal : Cert.ReferenceIdeal.Facts] [hPre_top_distinct : Cert.Pre_top_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_top_distinct : Cert.Pre_top_distinct.Facts),
    quiescent_Kernel (hKernel := hKernel)
    ∧ quiescent_KernelIdeal (hKernelIdeal := hKernelIdeal)
    ∧ quiescent_KernelIdeal_pre_top_distinct (hKernelIdeal := hKernelIdeal) (hPre_top_distinct := hPre_top_distinct)
    ∧ quiescent_ReferenceIdeal (hReferenceIdeal := hReferenceIdeal)
    ∧ quiescent_ReferenceIdeal_pre_top_distinct (hReferenceIdeal := hReferenceIdeal) (hPre_top_distinct := hPre_top_distinct)
    ∧ preserves_Kernel_KernelIdeal
    ∧ algebraic_KernelIdeal_ReferenceIdeal_pre_top_distinct (hKernelIdeal := hKernelIdeal) (hReferenceIdeal := hReferenceIdeal) (hPre_top_distinct := hPre_top_distinct)
-- ==== Pre_top_distinct.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S2x2048x4096 : Shape := ⟨3, ![2, 2048, 4096]⟩
abbrev S1x1x4096 : Shape := ⟨3, ![1, 1, 4096]⟩
abbrev S_ : Shape := ⟨0, ![]⟩
abbrev S2x2048 : Shape := ⟨2, ![2, 2048]⟩
abbrev S2x2048x1 : Shape := ⟨3, ![2, 2048, 1]⟩
abbrev S2x2048x33 : Shape := ⟨3, ![2, 2048, 33]⟩
abbrev S2x2048x32 : Shape := ⟨3, ![2, 2048, 32]⟩

class Facts : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  sliceFits_S2x2048x4096_S2x2048x33 : S2x2048x4096.Slices (fun _ => 0) S2x2048x33
  slices_S2x2048x33_S2x2048x32_0_0_0 : S2x2048x33.Slices ![0, 0, 0] S2x2048x32
  slices_S2x2048x33_S2x2048x32_0_0_1 : S2x2048x33.Slices ![0, 0, 1] S2x2048x32
  dot_S2x2048x1024_S4096x1024_S2x2048x4096_2_1_01_0_n_n_wf : DotDims.WF S2x2048x1024 S4096x1024 S2x2048x4096 [2] [1] [0, 1] [0] [] []

variable [Facts]

def dot_S2x2048x1024_S4096x1024_S2x2048x4096_2_1_01_0_n_n : DotDims S2x2048x1024 S4096x1024 S2x2048x4096 where
  lhsContracting := [2]
  rhsContracting := [1]
  lhsNonContracting := [0, 1]
  rhsNonContracting := [0]
  lhsBatch := []
  rhsBatch := []
  wf := dot_S2x2048x1024_S4096x1024_S2x2048x4096_2_1_01_0_n_n_wf
def fn_part1 {F : FTy → Type} [FloatOps F] (main_arg3 : FVec F S4096 .f32) (main_arg4 : FVec F S4096 .f32) (main_v16 : FVec F S2x2048x4096 .f32) (main_v18 : FVec F S2x2048x1 .f32) : IVec S2x2048x32 1 :=
  let main_v19 : FVec F S2x2048x1 .f32 := Host.sqrt main_v18
  let main_v20 : FVec F S2x2048x4096 .f32 := broadcastInDim S2x2048x4096 ![0, 1, 2] bcast_S2x2048x1_S2x2048x4096_0_1_2 main_v19
  let main_v21 : FVec F S2x2048x4096 .f32 := Host.divf main_v16 main_v20
  let main_v22 : FVec F S1x1x4096 .f32 := broadcastInDim S1x1x4096 ![2] bcast_S4096_S1x1x4096_2 main_arg3
  let main_v23 : FVec F S2x2048x4096 .f32 := broadcastInDim S2x2048x4096 ![0, 1, 2] bcast_S1x1x4096_S2x2048x4096_0_1_2 main_v22
  let main_v24 : FVec F S2x2048x4096 .f32 := mulf main_v21 main_v23
  let main_v25 : FVec F S1x1x4096 .f32 := broadcastInDim S1x1x4096 ![2] bcast_S4096_S1x1x4096_2 main_arg4
  let main_v26 : FVec F S2x2048x4096 .f32 := broadcastInDim S2x2048x4096 ![0, 1, 2] bcast_S1x1x4096_S2x2048x4096_0_1_2 main_v25
  let main_v27 : FVec F S2x2048x4096 .f32 := addf main_v24 main_v26
  let main_values : FVec F S2x2048x33 .f32 := (fun x => (Host.topK S2x2048x33 2 (FloatOps.cmpfTotal .gt) x sliceFits_S2x2048x4096_S2x2048x33).1) main_v27
  let main_indices : IVec S2x2048x33 32 := (fun x => (Host.topK S2x2048x33 2 (FloatOps.cmpfTotal .gt) x sliceFits_S2x2048x4096_S2x2048x33).2) main_v27
  let main_v28 : FVec F S2x2048x32 .f32 := (extractStridedSlice S2x2048x32 ![0, 0, 0] · slices_S2x2048x33_S2x2048x32_0_0_0) main_values
  let main_v29 : FVec F S2x2048x32 .f32 := (extractStridedSlice S2x2048x32 ![0, 0, 1] · slices_S2x2048x33_S2x2048x32_0_0_1) main_values
  let main_v30 : IVec S2x2048x32 1 := cmpf .ogt main_v28 main_v29
  main_v30

def fn {F : FTy → Type} [FloatOps F] (main_arg0 : FVec F S2x2048x1024 .f32) (main_arg1 : FVec F S4096x1024 .f32) (main_arg2 : FVec F S4096 .f32) (main_arg3 : FVec F S4096 .f32) (main_arg4 : FVec F S4096 .f32) (main_arg5 : FVec F S1024x4096 .f32) : IVec S2x2048x32 1 :=
  let main_v0 : FVec F S2x2048x4096 .f32 := (fun l r => Host.dotGeneral dot_S2x2048x1024_S4096x1024_S2x2048x4096_2_1_01_0_n_n none l r) main_arg0 main_arg1
  let main_v1 : FVec F S1x1x4096 .f32 := broadcastInDim S1x1x4096 ![2] bcast_S4096_S1x1x4096_2 main_arg2
  let main_v2 : FVec F S2x2048x4096 .f32 := broadcastInDim S2x2048x4096 ![0, 1, 2] bcast_S1x1x4096_S2x2048x4096_0_1_2 main_v1
  let main_v3 : FVec F S2x2048x4096 .f32 := addf main_v0 main_v2
  let main_cst : FVec F S_ .f32 := constant S_ .f32 0x00000000#32
  let main_v4 : FVec F S2x2048 .f32 := (fun x v => Host.reduceAdd x v reducesTo_S2x2048x4096_S2x2048_d2 h_S_) main_v3 main_cst
  let main_v5 : FVec F S2x2048x1 .f32 := broadcastInDim S2x2048x1 ![0, 1] bcast_S2x2048_S2x2048x1_0_1 main_v4
  let main_cst_0 : FVec F S_ .f32 := constant S_ .f32 0x45800000#32
  let main_v6 : FVec F S2x2048x1 .f32 := broadcastInDim S2x2048x1 ![] bcast_S_S2x2048x1 main_cst_0
  let main_v7 : FVec F S2x2048x1 .f32 := Host.divf main_v5 main_v6
  let main_v8 : FVec F S2x2048x4096 .f32 := broadcastInDim S2x2048x4096 ![0, 1, 2] bcast_S2x2048x1_S2x2048x4096_0_1_2 main_v7
  let main_v9 : FVec F S2x2048x4096 .f32 := subf main_v3 main_v8
  let main_v10 : FVec F S2x2048x4096 .f32 := mulf main_v9 main_v9
  let main_cst_1 : FVec F S_ .f32 := constant S_ .f32 0x00000000#32
  let main_v11 : FVec F S2x2048 .f32 := (fun x v => Host.reduceAdd x v reducesTo_S2x2048x4096_S2x2048_d2 h_S_) main_v10 main_cst_1
  let main_v12 : FVec F S2x2048x1 .f32 := broadcastInDim S2x2048x1 ![0, 1] bcast_S2x2048_S2x2048x1_0_1 main_v11
  let main_cst_2 : FVec F S_ .f32 := constant S_ .f32 0x45800000#32
  let main_v13 : FVec F S2x2048x1 .f32 := broadcastInDim S2x2048x1 ![] bcast_S_S2x2048x1 main_cst_2
  let main_v14 : FVec F S2x2048x1 .f32 := Host.divf main_v12 main_v13
  let main_v15 : FVec F S2x2048x4096 .f32 := broadcastInDim S2x2048x4096 ![0, 1, 2] bcast_S2x2048x1_S2x2048x4096_0_1_2 main_v7
  let main_v16 : FVec F S2x2048x4096 .f32 := subf main_v3 main_v15
  let main_cst_3 : FVec F S_ .f32 := constant S_ .f32 0x3727C5AC#32
  let main_v17 : FVec F S2x2048x1 .f32 := broadcastInDim S2x2048x1 ![] bcast_S_S2x2048x1 main_cst_3
  let main_v18 : FVec F S2x2048x1 .f32 := addf main_v14 main_v17
  fn_part1 (F := F) main_arg3 main_arg4 main_v16 main_v18
-- ==== Kernel.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1024x4096, .f32⟩
  | .hbm, ⟨6, _⟩ => ⟨S4096x1024, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x1024, .f32⟩
  | .hbm, ⟨11, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S4096x1024, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1024x4096, .f32⟩
  | .local _ .vmem, ⟨7, _⟩ => ⟨S256x1024, .f32⟩
  | .local _ .vmem, ⟨8, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c31_i32 : BitVec 32 := 31#32
  let v34 : BitVec 32 := Scalar.addi c0_i32 c31_i32
  let c1_i32 : BitVec 32 := 1#32
  ⟨c0_i32, v34, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S2x2048x4096 : Shape := ⟨3, ![2, 2048, 4096]⟩
abbrev S1x1x4096 : Shape := ⟨3, ![1, 1, 4096]⟩
abbrev S_ : Shape := ⟨0, ![]⟩
abbrev S2x2048 : Shape := ⟨2, ![2, 2048]⟩
abbrev S2x2048x1 : Shape := ⟨3, ![2, 2048, 1]⟩
abbrev S2x2048x32 : Shape := ⟨3, ![2, 2048, 32]⟩
abbrev S4096x32 : Shape := ⟨2, ![4096, 32]⟩
abbrev S4096x32x1 : Shape := ⟨3, ![4096, 32, 1]⟩
abbrev S1 : Shape := ⟨1, ![1]⟩
abbrev S1x1x1 : Shape := ⟨3, ![1, 1, 1]⟩
abbrev S4096x32x1024 : Shape := ⟨3, ![4096, 32, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1024x4096, .f32⟩
  | .hbm, ⟨6, _⟩ => ⟨S2x2048x4096, .f32⟩
  | .hbm, ⟨7, _⟩ => ⟨S1x1x4096, .f32⟩
  | .hbm, ⟨8, _⟩ => ⟨S2x2048x4096, .f32⟩
  | .hbm, ⟨9, _⟩ => ⟨S2x2048x4096, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x4096, .f32⟩
  | .hbm, ⟨17, _⟩ => ⟨S2x2048x4096, .f32⟩
  | .hbm, ⟨18, _⟩ => ⟨S2x2048x4096, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x4096, .f32⟩
  | .hbm, ⟨26, _⟩ => ⟨S2x2048x4096, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x4096, .f32⟩
  | .hbm, ⟨32, _⟩ => ⟨S2x2048x4096, .f32⟩
  | .hbm, ⟨33, _⟩ => ⟨S1x1x4096, .f32⟩
  | .hbm, ⟨34, _⟩ => ⟨S2x2048x4096, .f32⟩
  | .hbm, ⟨35, _⟩ => ⟨S2x2048x4096, .f32⟩
  | .hbm, ⟨36, _⟩ => ⟨S1x1x4096, .f32⟩
  | .hbm, ⟨37, _⟩ => ⟨S2x2048x4096, .f32⟩
  | .hbm, ⟨38, _⟩ => ⟨S2x2048x4096, .f32⟩
  | .hbm, ⟨39, _⟩ => ⟨S2x2048x32, .f32⟩
  | .hbm, ⟨40, _⟩ => ⟨S2x2048x32, .i32⟩
  | .hbm, ⟨41, _⟩ => ⟨S4096x32, .i32⟩
  | .hbm, ⟨42, _⟩ => ⟨S4096x32, .f32⟩
  | .hbm, ⟨43, _⟩ => ⟨S4096x1024, .f32⟩
  | .hbm, ⟨44, _⟩ => ⟨S_, .i32⟩
  | .hbm, ⟨45, _⟩ => ⟨S4096x32, .i32⟩
  | .hbm, ⟨46, _⟩ => ⟨S4096x32, .i1⟩
  | .hbm, ⟨47, _⟩ => ⟨S_, .i32⟩
  | .hbm, ⟨48, _⟩ => ⟨S4096x32, .i32⟩
  | .hbm, ⟨49, _⟩ => ⟨S4096x32, .i32⟩
  | .hbm, ⟨50, _⟩ => ⟨S4096x32, .i32⟩
  | .hbm, ⟨51, _⟩ => ⟨S4096x32x1, .i32⟩
  | .hbm, ⟨52, _⟩ => ⟨S1, .i32⟩
  | .hbm, ⟨53, _⟩ => ⟨S_, .i32⟩
  | .hbm, ⟨54, _⟩ => ⟨S4096x32x1, .i32⟩
  | .hbm, ⟨55, _⟩ => ⟨S4096x32x1, .i1⟩
  | .hbm, ⟨56, _⟩ => ⟨S1x1x1, .i32⟩
  | .hbm, ⟨57, _⟩ => ⟨S4096x32x1, .i32⟩
  | .hbm, ⟨58, _⟩ => ⟨S4096x32x1, .i1⟩
  | .hbm, ⟨59, _⟩ => ⟨S4096x32x1, .i1⟩
  | .hbm, ⟨60, _⟩ => ⟨S_, .i1⟩
  | .hbm, ⟨61, _⟩ => ⟨S4096x32, .i1⟩
  | .hbm, ⟨62, _⟩ => ⟨S4096x32x1024, .f32⟩
  | .hbm, ⟨63, _⟩ => ⟨S4096x32x1024, .i1⟩
  | .hbm, ⟨64, _⟩ => ⟨S_, .f32⟩
  | .hbm, ⟨65, _⟩ => ⟨S4096x32x1024, .f32⟩
  | .hbm, ⟨66, _⟩ => ⟨S4096x32x1024, .f32⟩
  | .hbm, ⟨67, _⟩ => ⟨S4096x1024, .f32⟩
  | .hbm, ⟨68, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_values : Ref sig .tc := ⟨.hbm, 39, rfl⟩
abbrev main_indices : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩

abbrev nD : Nat := 1
abbrev τ : Topo := Topo.v7x

variable {F : FTy → Type} [FloatOps F]
-- ==== Proof.Peel.lean ====
/- One row of extended reals from which the largest entry is struck out again and again: what is left after `k`
   strikes, the threshold the strikes end at, and the sum over the entries at or above it. Nothing here is about a
   program. -/
module

public import Idealize.ShloMosaic.Lib.SortFacts
public import Idealize.ShloMosaic.PureOps.Ideal

@[expose] public section

noncomputable section

namespace Cert.Peel

open Idealize.ShloMosaic

variable {n : ℕ}

/-- The largest entry of a row (−∞ for an empty row). -/
def rowMax (f : Fin n → EReal) : EReal := Finset.univ.sup f

/-- One strike: every entry that reaches the row's maximum becomes −∞. -/
def strike (f : Fin n → EReal) : Fin n → EReal := fun j => if rowMax f ≤ f j then ⊥ else f j

/-- The positions of a row, largest entry first and equal entries in position order: the order of a stable sort. -/
def order (f : Fin n → EReal) : Fin n → Fin n :=
  sortedFrom fun a b => (FloatOps.cmpfTotal (F := Ideal) (φ := .f32) .gt (f a) (f b)) == 1#1

/-- The comparison the sort uses is "greater than" on the extended reals. -/
theorem before_eq (x y : EReal) :
    ((FloatOps.cmpfTotal (F := Ideal) (φ := .f32) .gt x y) == 1#1) = decide (y < x) := by
  show (Ideal.cmpTotal .gt x y == 1#1) = _
  unfold Ideal.cmpTotal Ideal.cmp
  simp only [CmpDirection.ordered]
  by_cases h : y < x <;> simp [h]

/-- No two places of the order name one position. -/
theorem order_injective (f : Fin n → EReal) : Function.Injective (order f) := sortedFrom_injective _

/-- Every position has a place in the order. -/
theorem order_surjective (f : Fin n → EReal) : Function.Surjective (order f) := sortedFrom_surjective _

/-- Along the order the entries do not increase. -/
theorem order_antitone (f : Fin n → EReal) {i j : Fin n} (h : i ≤ j) : f (order f j) ≤ f (order f i) := by
  rcases eq_or_lt_of_le h with rfl | h
  · exact le_refl _
  · have := sortedFrom_noInversion
      (fun a b => (FloatOps.cmpfTotal (F := Ideal) (φ := .f32) .gt (f a) (f b)) == 1#1)
      (fun a b => (FloatOps.cmpfTotal (F := Ideal) (φ := .f32) .gt (f a) (f b)) == 1#1)
      (fun a b => by simp only [before_eq, decide_eq_true_eq, decide_eq_false_iff_not]; exact fun h => not_lt.mpr h.le)
      (fun a b h => h)
      (fun a b c => by
        simp only [before_eq, decide_eq_false_iff_not, not_lt]
        exact fun h1 h2 => h1.trans h2) i j h
    rw [before_eq, decide_eq_false_iff_not, not_lt] at this
    exact this

/-- The order as a permutation of the positions. -/
def perm (f : Fin n → EReal) : Fin n ≃ Fin n := Equiv.ofBijective (order f) ⟨order_injective f, order_surjective f⟩

/-- The `K + 2` largest entries of the row are pairwise distinct: along the order they strictly decrease. -/
def Distinct (f : Fin n → EReal) (K : ℕ) (hK : K + 1 < n) : Prop :=
  ∀ k : Fin (K + 1), f (order f ⟨k.val + 1, by have := k.isLt; omega⟩) < f (order f ⟨k.val, by have := k.isLt; omega⟩)

variable {f : Fin n → EReal} {K : ℕ} {hK : K + 1 < n}

/-- Past place `k ≤ K` the entries are below the one at place `k`. -/
theorem Distinct.lt (h : Distinct f K hK) {i k : Fin n} (hk : k.val ≤ K) (hi : k.val < i.val) :
    f (order f i) < f (order f k) :=
  lt_of_le_of_lt (order_antitone f (i := ⟨k.val + 1, by omega⟩) (j := i) (by show k.val + 1 ≤ i.val; omega))
    (h ⟨k.val, by omega⟩)

/-- The maximum of a row that is −∞ at the first `k` places of the order and unchanged past them is the entry at
    place `k`. -/
theorem rowMax_struck {g : Fin n → EReal} {k : ℕ} (hk : k < n)
    (hg : ∀ i : Fin n, g (order f i) = if i.val < k then ⊥ else f (order f i)) :
    rowMax g = f (order f ⟨k, hk⟩) := by
  unfold rowMax
  apply le_antisymm
  · refine Finset.sup_le fun j _ => ?_
    obtain ⟨i, rfl⟩ := order_surjective f j
    rw [hg]
    split
    · exact bot_le
    · exact order_antitone f (i := ⟨k, hk⟩) (j := i) (by show k ≤ i.val; omega)
  · have h1 : g (order f ⟨k, hk⟩) = f (order f ⟨k, hk⟩) := by rw [hg]; simp
    rw [← h1]
    exact Finset.le_sup (f := g) (Finset.mem_univ _)

/-- After `k ≤ K + 1` strikes the first `k` places of the order hold −∞ and the others what they held. -/
theorem strike_iterate (h : Distinct f K hK) : ∀ (k : ℕ), k ≤ K + 1 → ∀ i : Fin n,
    (strike^[k] f) (order f i) = if i.val < k then ⊥ else f (order f i)
  | 0, _, i => by simp
  | k + 1, hk, i => by
    have ih := strike_iterate h k (by omega)
    have hm := rowMax_struck (by omega : k < n) ih
    rw [Function.iterate_succ_apply']
    unfold strike
    change (if rowMax (strike^[k] f) ≤ (strike^[k] f) (order f i) then ⊥ else (strike^[k] f) (order f i)) = _
    rw [hm, ih i]
    by_cases hlt : i.val < k
    · rw [if_pos hlt, if_pos (Nat.lt_succ_of_lt hlt), ite_self]
    rw [if_neg hlt]
    by_cases heq : i.val = k
    · rw [show (⟨k, Nat.lt_of_lt_of_le hk hK.le⟩ : Fin n) = i from Fin.ext heq.symm, if_pos (le_refl _),
        if_pos (by rw [heq]; exact Nat.lt_succ_self k)]
    · have hgt : k < i.val := lt_of_le_of_ne (not_lt.mp hlt) (Ne.symm heq)
      rw [if_neg (not_le.mpr (h.lt (k := ⟨k, Nat.lt_of_lt_of_le hk hK.le⟩) (Nat.le_of_succ_le_succ hk) hgt)),
        if_neg (not_lt.mpr hgt)]

/-- The row's maximum after `K` strikes, the threshold, is the entry at place `K`. -/
theorem threshold (h : Distinct f K hK) : rowMax (strike^[K] f) = f (order f ⟨K, by omega⟩) :=
  rowMax_struck (by omega) (strike_iterate h K (by omega))

/-- The entries at or above the threshold are those at the first `K + 1` places. -/
theorem threshold_le_iff (h : Distinct f K hK) (i : Fin n) :
    rowMax (strike^[K] f) ≤ f (order f i) ↔ i.val < K + 1 := by
  rw [threshold h]
  constructor
  · intro hle
    by_contra hc
    exact absurd (h.lt (k := ⟨K, by omega⟩) (i := i) (le_refl _) (by show K < i.val; omega)) (not_lt.mpr hle)
  · intro hi
    exact order_antitone f (i := i) (j := ⟨K, by omega⟩) (by show i.val ≤ K; omega)

/-- A sum over a row in which only the first `m` places of an order count is the sum over those places. -/
theorem sum_first (m : ℕ) (hm : m ≤ n) (σ : Fin n ≃ Fin n) (g v : Fin n → EReal)
    (hg : ∀ i : Fin n, g (σ i) = if i.val < m then v (σ i) else 0) :
    ∑ j, g j = ∑ k : Fin m, v (σ ⟨k.val, lt_of_lt_of_le k.isLt hm⟩) := by
  rw [← Equiv.sum_comp σ g]
  simp only [hg]
  rw [← Finset.sum_filter]
  refine (Finset.sum_bij (fun (k : Fin m) _ => (⟨k.val, lt_of_lt_of_le k.isLt hm⟩ : Fin n)) ?_ ?_ ?_ ?_).symm
  · intro k _; simp
  · intro a _ b _ hab; exact Fin.ext (by simpa using hab)
  · intro b hb
    exact ⟨⟨b.val, (Finset.mem_filter.mp hb).2⟩, Finset.mem_univ _, rfl⟩
  · intro k _; rfl

/-- **The masked product is the product over the top entries.** The sum of `f j · w j` over the entries at or above
    the threshold, `0 · w j` standing for the others, is the sum over the first `K + 1` places of the order. -/
theorem masked_sum (h : Distinct f K hK) (w : Fin n → EReal) :
    ∑ j, (if rowMax (strike^[K] f) ≤ f j then f j else 0) * w j
      = ∑ k : Fin (K + 1), f (order f ⟨k.val, by omega⟩) * w (order f ⟨k.val, by omega⟩) := by
  refine sum_first (K + 1) hK.le (perm f) (fun j => (if rowMax (strike^[K] f) ≤ f j then f j else 0) * w j) (fun j => f j * w j) fun i => ?_
  show (if rowMax (strike^[K] f) ≤ f (order f i) then f (order f i) else 0) * w (order f i) = _
  simp only [threshold_le_iff h]
  split
  · rfl
  · exact zero_mul _

end Cert.Peel

end
-- ==== Proof.Row.lean ====
/- What is computed for one token, on its own: the encoder's row, its layer normalisation in the two ways it is
   written (times the reciprocal square root; divided by the square root), and their equality on all extended reals. -/
module

public import Idealize.ShloMosaic.PureOps.Ideal
public import Idealize.ShloMosaic.PureOps.Ideal.Laws
public import Idealize.ShloMosaic.Lib.IdealHost
public import Mathlib.Data.EReal.Inv

@[expose] public section

noncomputable section

namespace Cert.Row

open Idealize.ShloMosaic

/-- The width of the normalised row, 4096, as the constant both programs divide by. -/
abbrev width : EReal := Ideal.ofBits .f32 0x45800000#32
/-- The constant added to the variance. -/
abbrev eps : EReal := Ideal.ofBits .f32 0x3727C5AC#32

/-- The encoder's row: the token's product with every row of the encoder matrix, plus the bias. -/
def enc (x : Fin 1024 → EReal) (W : Fin 4096 → Fin 1024 → EReal) (b : Fin 4096 → EReal) : Fin 4096 → EReal :=
  fun o => ∑ k, x k * W o k + b o

/-- The mean of a row. -/
def mean (e : Fin 4096 → EReal) : EReal := Ideal.div (∑ o, e o) width

/-- The mean squared deviation of a row. -/
def var (e : Fin 4096 → EReal) : EReal := Ideal.div (∑ o, (e o - mean e) * (e o - mean e)) width

/-- Layer normalisation with the reciprocal square root, as the kernel writes it. -/
def normMul (e w b : Fin 4096 → EReal) : Fin 4096 → EReal :=
  fun o => (e o - mean e) * Ideal.rsqrt (var e + eps) * w o + b o

/-- Layer normalisation with a division by the square root, as the reference writes it. -/
def normDiv (e w b : Fin 4096 → EReal) : Fin 4096 → EReal :=
  fun o => Ideal.div (e o - mean e) (Ideal.sqrt (var e + eps)) * w o + b o

/-- The constant added to the variance is a positive real. -/
theorem eps_pos : 0 < eps := by
  unfold eps
  simp [Ideal.ofBits, Ideal.ieee, -EReal.coe_mul]

/-- The width is a positive real. -/
theorem width_pos : 0 < width := by
  unfold width
  simp [Ideal.ofBits, Ideal.ieee, -EReal.coe_mul]

/-- A square is not negative, at the infinities either. -/
theorem mul_self_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The mean squared deviation is not negative. -/
theorem var_nonneg (e : Fin 4096 → EReal) : 0 ≤ var e := by
  unfold var Ideal.div
  rw [if_neg width_pos.ne']
  exact EReal.mul_nonneg (Finset.sum_nonneg fun o _ => mul_self_nonneg _) (EReal.inv_nonneg_of_nonneg width_pos.le)

/-- On a positive extended real, dividing by the square root is multiplying by the reciprocal square root. -/
theorem div_sqrt (x d : EReal) (hd : 0 < d) : Ideal.div x (Ideal.sqrt d) = x * Ideal.rsqrt d := by
  induction d with
  | bot => exact absurd hd (by simp)
  | top =>
    show Ideal.div x ⊤ = x * 0
    unfold Ideal.div
    rw [if_neg (by simp), EReal.inv_top]
  | coe r =>
    have hr : 0 < r := by exact_mod_cast hd
    have h0 : ¬ r < 0 := not_lt.mpr hr.le
    have hs : Real.sqrt r ≠ 0 := (Real.sqrt_pos.mpr hr).ne'
    show Ideal.div x (if r < 0 then (⊥ : EReal) else (Real.sqrt r : EReal))
      = x * (if r < 0 then (⊥ : EReal) else if r = 0 then (⊤ : EReal) else (((Real.sqrt r)⁻¹ : ℝ) : EReal))
    rw [if_neg h0, if_neg h0, if_neg hr.ne']
    unfold Ideal.div
    rw [if_neg (by exact_mod_cast hs), EReal.coe_inv]

/-- **The two layer normalisations agree** on every row, weight and bias. -/
theorem normMul_eq_normDiv (e w b : Fin 4096 → EReal) : normMul e w b = normDiv e w b := by
  funext o
  unfold normMul normDiv
  rw [div_sqrt _ _ (lt_of_lt_of_le eps_pos (le_add_of_nonneg_left (var_nonneg e)))]

end Cert.Row

end
-- ==== Proof.Payloads.lean ====
/- The four values the kernel body computes, read entry by entry. -/
module

public import proofs.«01_k».proof.Proof.Gen.KernelIdeal.Frame
public import proofs.«01_k».proof.Proof.Peel
public import proofs.«01_k».proof.Proof.Row
public import Idealize.ShloMosaic.Lib.Pipeline.Value
public import Idealize.ShloMosaic.Lib.Pointwise
public import Idealize.ShloMosaic.Lib.Tactic

@[expose] public section

set_option maxRecDepth 16384

noncomputable section

namespace Cert.KernelIdeal.Payloads

open Cert.KernelIdeal Cert.KernelIdeal.Gen Idealize.ShloMosaic Idealize.ShloMosaic.TcCoe Idealize.SL.Sem
open Cert

/-- Offsets of zero on both axes. -/
theorem hz : (![0, 0] : Fin 2 → Nat) = fun _ => 0 := funext fun a => by fin_cases a <;> rfl

/-- Row `r` of a block of 256 rows. -/
abbrev row {n : ℕ} (X : (⟨2, ![256, n]⟩ : Shape).Idx → EReal) (r : Fin 256) : Fin n → EReal := fun o => X (ix2 r o)

/-- −∞'s pattern is the least extended real. -/
theorem negInf : Ideal.ofBits .f32 0xFF800000#32 = (⊥ : EReal) := by
  simp [Ideal.ofBits, Ideal.ieee]

/-- The normalised block, row by row: layer normalisation of the encoder's row. -/
theorem pay2_apply (x0 : Vec Ideal S256x1024 .f32) (x1 : Vec Ideal S4096x1024 .f32) (x2 x3 x4 : Vec Ideal S1x4096 .f32)
    (r : Fin 256) (o : Fin 4096) :
    k0_pay2 x0 x1 x2 x3 x4 (ix2 r o)
      = Row.normMul (Row.enc (fun k => x0 (ix2 r k)) (fun o k => x1 (ix2 o k)) (fun o => x2 (ix2 0 o)))
          (fun o => x3 (ix2 0 o)) (fun o => x4 (ix2 0 o)) o := by
  unfold Row.normMul Row.var Row.mean Row.enc
  pointwise [k0_pay2]

/-- The fold of the maximum from −∞ is the row's maximum. -/
theorem fold_max (f : Fin 4096 → EReal) :
    Finset.fold max (Ideal.ofBits .f32 0xFF800000#32) f Finset.univ = Peel.rowMax f := by
  rw [negInf]; rfl

/-- The threshold's column: the maximum of every row. -/
theorem pay4_apply (v : FVec Ideal S256x4096 .f32) (r : Fin 256) :
    k0_pay4 v (ix2 r 0) = Peel.rowMax (row v r) := by
  rw [← fold_max]
  pointwise [k0_pay4]

/-- One trip of the loop, over the column of the rows' maxima. -/
theorem pay3_eq (v : FVec Ideal S256x4096 .f32) :
    k0_pay3 v = select (cmpf .oge v (broadcastTo S256x4096 (k0_pay4 v) broadcasts_S256x1_S256x4096))
      (broadcast S256x4096 (Scalar.ofBits .f32 0xFF800000#32)) v := rfl

/-- One trip of the loop strikes the maximum out of every row. -/
theorem pay3_apply (v : FVec Ideal S256x4096 .f32) (r : Fin 256) (o : Fin 4096) :
    k0_pay3 v (ix2 r o) = Peel.strike (row v r) o := by
  rw [pay3_eq]
  pointwise
  rw [pay4_apply, negInf]
  rfl

/-- The decoder's product: only entries that reach their row's threshold count. -/
theorem pay1_apply (v : FVec Ideal S256x4096 .f32) (th : FVec Ideal S256x1 .f32) (w : Vec Ideal S1024x4096 .f32)
    (r : Fin 256) (d : Fin 1024) :
    k0_pay1 v th w (ix2 r d)
      = ∑ o, (if th (ix2 r 0) ≤ v (ix2 r o) then v (ix2 r o) else 0) * w (ix2 d o) := by
  pointwise [k0_pay1]

end Cert.KernelIdeal.Payloads

end
-- ==== Proof.Block.lean ====
/- What the kernel body leaves in its output block at one grid point, entry by entry. -/
module

public import proofs.«01_k».proof.Proof.Payloads

@[expose] public section

set_option maxRecDepth 16384

noncomputable section

namespace Cert.KernelIdeal.Block

open Cert.KernelIdeal Cert.KernelIdeal.Gen Idealize.ShloMosaic Idealize.ShloMosaic.TcCoe Idealize.SL.Sem
open Cert Cert.KernelIdeal.Payloads

/-- Folding one step over a list is repeating it as often as the list is long. -/
theorem foldl_const {α β : Type} (g : α → α) (l : List β) (a : α) : l.foldl (fun acc _ => g acc) a = g^[l.length] a := by
  induction l generalizing a with
  | nil => rfl
  | cons b l ih => rw [List.foldl_cons, ih]; rfl

/-- The loop makes 31 trips. -/
theorem trips_eq : k0_t1_loop.trips = 31 := by decide +kernel

/-- The loop's fold is the trip's value repeated 31 times. -/
theorem fold_eq (g : FVec Ideal S256x4096 .f32 → FVec Ideal S256x4096 .f32) (v : FVec Ideal S256x4096 .f32) :
    Scf.fold (n := k0_t1_loop.trips) (fun _ acc => g acc) v = g^[31] v := by
  rw [Scf.fold_eq, foldl_const, List.length_finRange, trips_eq]

/-- Repeated trips strike every row of the block on its own. -/
theorem row_iterate (v : FVec Ideal S256x4096 .f32) (r : Fin 256) : ∀ k : ℕ,
    row (k0_pay3^[k] v) r = Peel.strike^[k] (row v r)
  | 0 => rfl
  | k + 1 => by
    rw [Function.iterate_succ_apply', Function.iterate_succ_apply', ← row_iterate v r k]
    funext o
    exact pay3_apply _ r o

/-- The output block as a term of the input blocks. -/
theorem out_eq (c : Dev nD) (i : grid0.Coords) (a1 : Memref sig .tc .vmem S256x1024 .f32) (h1 : a1.IsWhole)
    (a2 : Memref sig .tc .vmem S4096x1024 .f32) (h2 : a2.IsWhole) (a3 : Memref sig .tc .vmem S1x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S1024x4096 .f32) (h6 : a6.IsWhole) (a7 : Memref sig .tc .vmem S256x1024 .f32) (h7 : a7.IsWhole)
    (x0 : Vec Ideal S256x1024 .f32) (x1 : Vec Ideal S4096x1024 .f32) (x2 x3 x4 : Vec Ideal S1x4096 .f32)
    (x5 : Vec Ideal S1024x4096 .f32) :
    out0_A_6 c i a1 h1 a2 h2 a3 h3 a4 h4 a5 h5 a6 h6 a7 h7 x0 x1 x2 x3 x4 x5
      = k0_pay1 (k0_pay2 x0 x1 x2 x3 x4)
          (k0_pay4 (Scf.fold (n := k0_t1_loop.trips) (fun _ acc => k0_pay3 acc) (k0_pay2 x0 x1 x2 x3 x4))) x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S256x1024) hz, View.ld_unit_zero (S := S4096x1024) hz,
    View.ld_unit_zero (S := S1x4096) hz, View.ld_unit_zero (S := S1024x4096) hz]

/-- The output block at an entry: the product of the decoder's row with the normalised row in which only the entries
    that reach the maximum left after 31 strikes count. -/
theorem out_apply (c : Dev nD) (i : grid0.Coords) (a1 : Memref sig .tc .vmem S256x1024 .f32) (h1 : a1.IsWhole)
    (a2 : Memref sig .tc .vmem S4096x1024 .f32) (h2 : a2.IsWhole) (a3 : Memref sig .tc .vmem S1x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S1024x4096 .f32) (h6 : a6.IsWhole) (a7 : Memref sig .tc .vmem S256x1024 .f32) (h7 : a7.IsWhole)
    (x0 : Vec Ideal S256x1024 .f32) (x1 : Vec Ideal S4096x1024 .f32) (x2 x3 x4 : Vec Ideal S1x4096 .f32)
    (x5 : Vec Ideal S1024x4096 .f32) (r : Fin 256) (d : Fin 1024) (f : Fin 4096 → EReal)
    (hf : f = Row.normMul (Row.enc (fun k => x0 (ix2 r k)) (fun o k => x1 (ix2 o k)) (fun o => x2 (ix2 0 o)))
      (fun o => x3 (ix2 0 o)) (fun o => x4 (ix2 0 o))) :
    out0_A_6 c i a1 h1 a2 h2 a3 h3 a4 h4 a5 h5 a6 h6 a7 h7 x0 x1 x2 x3 x4 x5 (ix2 r d)
      = ∑ o, (if Peel.rowMax (Peel.strike^[31] f) ≤ f o then f o else 0) * x5 (ix2 d o) := by
  have hrow : row (k0_pay2 x0 x1 x2 x3 x4) r = f := by
    rw [hf]; funext o; exact pay2_apply x0 x1 x2 x3 x4 r o
  rw [out_eq, pay1_apply, fold_eq, pay4_apply, row_iterate, hrow]
  refine Finset.sum_congr rfl fun o _ => ?_
  rw [show k0_pay2 x0 x1 x2 x3 x4 (ix2 r o) = f o from congrFun hrow o]

end Cert.KernelIdeal.Block

end
-- ==== Proof.Final.lean ====
/- The kernel's result array: each grid point's block put in its place, then the host's reshape. -/
module

public import proofs.«01_k».proof.Proof.Block
public import proofs.«01_k».proof.Defs
public import Idealize.ShloMosaic.Lib.Pipeline.ValueKit
public import Idealize.ShloMosaic.Lib.StableHlo.RunHlo
public import Idealize.ShloMosaic.Lib.Claim

@[expose] public section

set_option maxRecDepth 16384

noncomputable section

namespace Cert.KernelIdeal.Final

open Cert.KernelIdeal Cert.KernelIdeal.Gen Idealize.ShloMosaic Idealize.ShloMosaic.TcCoe Idealize.SL.Sem
open Cert

variable (m : (ℓ : Loc nD τ sig) → Buf (Elt Ideal) ℓ) (ρ : Dev nD → PrngReg)

/-- One token's decoded entry, from its normalised row `f` and one row `w` of the decoder. -/
abbrev decode (f w : Fin 4096 → EReal) : EReal :=
  ∑ o, (if Peel.rowMax (Peel.strike^[31] f) ≤ f o then f o else 0) * w o

/-- Token `i`'s normalised row, read from the arrays as the region finds them. -/
def hidden (c : Dev nD) (i : Fin 4096) : Fin 4096 → EReal :=
  Row.normMul (Row.enc (fun k : Fin 1024 => (V m c main_v0 : Vec Ideal S4096x1024 .f32) (ix2 i k))
      (fun o k => (V m c main_arg1 : Vec Ideal S4096x1024 .f32) (ix2 o k))
      (fun o => (V m c main_v1 : Vec Ideal S1x4096 .f32) (ix2 0 o)))
    (fun o => (V m c main_v2 : Vec Ideal S1x4096 .f32) (ix2 0 o))
    (fun o => (V m c main_v3 : Vec Ideal S1x4096 .f32) (ix2 0 o))

/-- What the region leaves in its result array. -/
abbrev whole (c : Dev nD) : Vec Ideal S4096x1024 .f32 :=
  fun p => decode (hidden m c (p 0)) fun o => (V m c main_arg5 : Vec Ideal S1024x4096 .f32) (ix2 (p 1) o)

/-- The token window at a grid point starts at that point's block of tokens. -/
theorem index0 : ∀ t : Fin cfg0.N, win0_0.index t = ![(grid0.coords t 0).val, 0] := by decide +kernel
/-- The encoder weights' window is the whole array at every grid point. -/
theorem index1 : ∀ t : Fin cfg0.N, win0_1.index t = ![0, 0] := by decide +kernel
/-- The encoder bias's window is the whole row at every grid point. -/
theorem index2 : ∀ t : Fin cfg0.N, win0_2.index t = ![0, 0] := by decide +kernel
/-- The normalisation weights' window is the whole row at every grid point. -/
theorem index3 : ∀ t : Fin cfg0.N, win0_3.index t = ![0, 0] := by decide +kernel
/-- The normalisation bias's window is the whole row at every grid point. -/
theorem index4 : ∀ t : Fin cfg0.N, win0_4.index t = ![0, 0] := by decide +kernel
/-- The decoder weights' window is the whole array at every grid point. -/
theorem index5 : ∀ t : Fin cfg0.N, win0_5.index t = ![0, 0] := by decide +kernel
/-- The result window at a grid point starts at that point's block of tokens. -/
theorem index6 : ∀ t : Fin cfg0.N, win0_6.index t = ![(grid0.coords t 0).val, 0] := by decide +kernel

/-- The token that row `r` of grid point `t`'s block holds. -/
def token (t : Fin cfg0.N) (r : Fin 256) : Fin 4096 :=
  ⟨(grid0.coords t 0).val * 256 + r.val, by
    have h : (grid0.coords t 0).val < 16 := (grid0.coords t 0).isLt
    have := r.isLt
    omega⟩

/-- The block of tokens at a point, read at an entry. -/
theorem read0 (c : Dev nD) (t : Fin cfg0.N) (r : Fin 256) (k : Fin 1024) :
    (iblk m c 0 t : Vec Ideal S256x1024 .f32) (ix2 r k) = (V m c main_v0 : Vec Ideal S4096x1024 .f32) (ix2 (token t r) k) := by
  blk_ext [iblk, V, index0 t, token]

/-- The encoder's matrix is read whole at every point. -/
theorem read1 (c : Dev nD) (t : Fin cfg0.N) (o : Fin 4096) (k : Fin 1024) :
    (iblk m c 1 t : Vec Ideal S4096x1024 .f32) (ix2 o k) = (V m c main_arg1 : Vec Ideal S4096x1024 .f32) (ix2 o k) := by
  blk_ext [iblk, V, index1 t]

/-- The encoder's bias is read whole at every point. -/
theorem read2 (c : Dev nD) (t : Fin cfg0.N) (o : Fin 4096) :
    (iblk m c 2 t : Vec Ideal S1x4096 .f32) (ix2 0 o) = (V m c main_v1 : Vec Ideal S1x4096 .f32) (ix2 0 o) := by
  blk_ext [iblk, V, index2 t]

/-- The normalisation's scale is read whole at every point. -/
theorem read3 (c : Dev nD) (t : Fin cfg0.N) (o : Fin 4096) :
    (iblk m c 3 t : Vec Ideal S1x4096 .f32) (ix2 0 o) = (V m c main_v2 : Vec Ideal S1x4096 .f32) (ix2 0 o) := by
  blk_ext [iblk, V, index3 t]

/-- The normalisation's shift is read whole at every point. -/
theorem read4 (c : Dev nD) (t : Fin cfg0.N) (o : Fin 4096) :
    (iblk m c 4 t : Vec Ideal S1x4096 .f32) (ix2 0 o) = (V m c main_v3 : Vec Ideal S1x4096 .f32) (ix2 0 o) := by
  blk_ext [iblk, V, index4 t]

/-- The decoder's matrix is read whole at every point. -/
theorem read5 (c : Dev nD) (t : Fin cfg0.N) (d : Fin 1024) (o : Fin 4096) :
    (iblk m c 5 t : Vec Ideal S1024x4096 .f32) (ix2 d o) = (V m c main_arg5 : Vec Ideal S1024x4096 .f32) (ix2 d o) := by
  blk_ext [iblk, V, index5 t]

/-- Where an entry of a point's output block lies in the result array. -/
theorem place (t : Fin cfg0.N) (r : Fin 256) (d : Fin 1024) :
    ((win0_6.blk t).view.emb (ix2 r d) : S4096x1024.Idx) = ix2 (token t r) d := by
  funext a
  apply Fin.ext
  match a with
  | ⟨0, _⟩ => show win0_6.index t 0 * 256 + 1 * r.val = (grid0.coords t 0).val * 256 + r.val
              rw [index6 t]; simp
  | ⟨1, _⟩ => show win0_6.index t 1 * 1024 + 1 * d.val = d.val
              rw [index6 t]; simp

/-- What the body leaves in its output block at a point, entry by entry. -/
theorem block_apply (c : Dev nD) (t : Fin cfg0.N) (r : Fin 256) (d : Fin 1024) :
    (outsAt0 m c t : Vec Ideal S256x1024 .f32) (ix2 r d) = whole m c (ix2 (token t r) d) := by
  have h := Block.out_apply c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) r d _ rfl
  simp only [read0, read1, read2, read3, read4, read5] at h
  exact h

/-- The region's result array: every token's decoded row. -/
theorem final (c : Dev nD) : (dats m 0 c).arrAt 6 cfg0.N = whole m c := by
  refine (dats m 0 c).arrAt_eq_of_covers 6 _ (by decide +kernel) fun t hf y => ?_
  blk_simp
  rw [after0_6]
  obtain ⟨r, d, rfl⟩ : ∃ (r : Fin 256) (d : Fin 1024), y = ix2 r d := ⟨y 0, y 1, (ix2_eta y).symm⟩
  refine (block_apply m c t r d).trans ?_
  exact congrArg (whole m c) (place t r d).symm

/-- The tokens' array that the region reads is the argument in the host's shape. -/
theorem V0_eq (c : Dev nD) : V m c main_v0
    = shapeCast S4096x1024 (m ((c.tc : Thread nD τ).loc main_arg0) : Vec Ideal S2x2048x1024 .f32) shapeCasts_S2x2048x1024_S4096x1024 := by
  unfold V V0 hostOps0
  simp only [List.flatten_cons, List.flatten_nil, List.append_nil]
  after_results
  rfl

/-- The encoder's bias that the region reads is the argument as one row. -/
theorem V1_eq (c : Dev nD) : V m c main_v1
    = shapeCast S1x4096 (m ((c.tc : Thread nD τ).loc main_arg2) : Vec Ideal S4096 .f32) shapeCasts_S4096_S1x4096 := by
  unfold V V0 hostOps0
  simp only [List.flatten_cons, List.flatten_nil, List.append_nil]
  after_results
  rfl

/-- The scale that the region reads is the argument as one row. -/
theorem V2_eq (c : Dev nD) : V m c main_v2
    = shapeCast S1x4096 (m ((c.tc : Thread nD τ).loc main_arg3) : Vec Ideal S4096 .f32) shapeCasts_S4096_S1x4096 := by
  unfold V V0 hostOps0
  simp only [List.flatten_cons, List.flatten_nil, List.append_nil]
  after_results
  rfl

/-- The shift that the region reads is the argument as one row. -/
theorem V3_eq (c : Dev nD) : V m c main_v3
    = shapeCast S1x4096 (m ((c.tc : Thread nD τ).loc main_arg4) : Vec Ideal S4096 .f32) shapeCasts_S4096_S1x4096 := by
  unfold V V0 hostOps0
  simp only [List.flatten_cons, List.flatten_nil, List.append_nil]
  after_results
  rfl

/-- Reshaping the tokens' array to one token a row, read at an entry. -/
theorem tokens_apply (x : Vec Ideal S2x2048x1024 .f32) (b : Fin 2) (s : Fin 2048) (i : Fin 4096) (k : Fin 1024)
    (hi : i.val = b.val * 2048 + s.val) : shapeCast S4096x1024 x shapeCasts_S2x2048x1024_S4096x1024 (ix2 i k) = x (ix3 b s k) := by
  pointwise
  have hs := s.isLt
  congr 2
  · exact Fin.ext (show i.val / 2048 = b.val by omega)
  · exact Fin.ext (show i.val % 2048 = s.val by omega)

/-- A vector as one row, read at an entry. -/
theorem line_apply (x : Vec Ideal S4096 .f32) (o : Fin 4096) : shapeCast S1x4096 x shapeCasts_S4096_S1x4096 (ix2 0 o) = x (ix1 o) := by
  pointwise

/-- Token `(b, s)`'s normalised row, from the arguments. -/
def rowOf (c : Dev nD) (b : Fin 2) (s : Fin 2048) : Fin 4096 → EReal :=
  Row.normMul (Row.enc (fun k : Fin 1024 => (m ((c.tc : Thread nD τ).loc main_arg0) : Vec Ideal S2x2048x1024 .f32) (ix3 b s k))
      (fun o k => (m ((c.tc : Thread nD τ).loc main_arg1) : Vec Ideal S4096x1024 .f32) (ix2 o k))
      (fun o => (m ((c.tc : Thread nD τ).loc main_arg2) : Vec Ideal S4096 .f32) (ix1 o)))
    (fun o => (m ((c.tc : Thread nD τ).loc main_arg3) : Vec Ideal S4096 .f32) (ix1 o))
    (fun o => (m ((c.tc : Thread nD τ).loc main_arg4) : Vec Ideal S4096 .f32) (ix1 o))

/-- The row that the region computes for a token is the row of the arguments. -/
theorem hidden_eq (c : Dev nD) (b : Fin 2) (s : Fin 2048) (i : Fin 4096) (hi : i.val = b.val * 2048 + s.val) :
    hidden m c i = rowOf m c b s := by
  unfold hidden rowOf
  rw [V0_eq, V1_eq, V2_eq, V3_eq, V_main_arg1]
  simp only [tokens_apply _ b s i _ hi]
  congr 1
  · congr 1
    funext o
    exact line_apply _ o
  · funext o
    exact line_apply _ o
  · funext o
    exact line_apply _ o

/-- The result array in the host's shape. -/
abbrev result (c : Dev nD) : Vec Ideal S2x2048x1024 .f32 := shapeCast S2x2048x1024 (whole m c) shapeCasts_S4096x1024_S2x2048x1024

/-- The result at an entry: token `(b, s)`'s row decoded with row `d` of the decoder. -/
theorem result_apply (c : Dev nD) (b : Fin 2) (s : Fin 2048) (d : Fin 1024) : result m c (ix3 b s d)
    = decode (rowOf m c b s) fun o => (m ((c.tc : Thread nD τ).loc main_arg5) : Vec Ideal S1024x4096 .f32) (ix2 d o) := by
  have hi : b.val * 2048 + s.val < 4096 := by have := b.isLt; have := s.isLt; omega
  have h : result m c (ix3 b s d) = whole m c (ix2 ⟨b.val * 2048 + s.val, hi⟩ d) := by
    unfold result
    pointwise
  rw [h]
  show decode (hidden m c ⟨b.val * 2048 + s.val, hi⟩) (fun o => (V m c main_arg5 : Vec Ideal S1024x4096 .f32) (ix2 d o)) = _
  rw [hidden_eq m c b s _ rfl, V_main_arg5]

/-- The program runs and its result array ends at `result`. -/
theorem run : θ_run defs (onTc (τ := τ) (main (F := Ideal))) ⟨m, fun _ => 0, ρ⟩ fun r => ∀ c : Dev nD,
    r.2.mem ((c.tc : Thread nD τ).loc main_v5) = result m c := by
  run_from Gen.run_main m ρ
  unfold Pipeline.afterTail₀ hostOps1
  simp only [List.flatten_cons, List.flatten_nil, List.append_nil]
  after_results
  have h : Pipeline.withArrays (cfgs 0).spec c (V0 m c) (fun w => (dats m 0 c).arrAt w (cfgs 0).N) (Proc.devRef .tc main_v4)
      = whole m c := (Pipeline.withArrays_arr spec0 launch0.win.arr_inj c (V0 m c) _ 6).trans (final m c)
  rw [h]
  rfl

end Cert.KernelIdeal.Final

end
-- ==== Proof.TopK.lean ====
/- A row's largest values and their positions, entry by entry: the stable sort's order of the row. -/
module

public import proofs.«01_k».proof.Proof.Peel
public import Idealize.ShloMosaic.Lib.Pointwise

@[expose] public section

set_option maxRecDepth 16384

noncomputable section

namespace Cert.TopK

open Idealize.ShloMosaic

/-- The shape of all tokens' rows of `n` entries. -/
abbrev rows (n : ℕ) : Shape := ⟨3, ![2, 2048, n]⟩

/-- An index of the rows with its last coordinate replaced. -/
theorem along_eq {n : ℕ} (b : Fin 2) (s : Fin 2048) (o k : Fin n) :
    @Shape.Idx.along (rows n) (ix3 b s o) (2 : Fin 3) k = ix3 b s k := by
  funext a
  match a with
  | ⟨0, _⟩ => rfl
  | ⟨1, _⟩ => rfl
  | ⟨2, _⟩ => rfl

variable {K : ℕ}

/-- The first `K` columns of an array of rows, read at an entry. -/
theorem slice_apply {α : Type} (y : (rows 4096).Idx → α) (h : (rows 4096).Slices (fun _ => 0) (rows K)) (hK : K ≤ 4096)
    (b : Fin 2) (s : Fin 2048) (k : Fin K) :
    extractStridedSlice (rows K) (fun _ => 0) y h (ix3 b s k) = y (ix3 b s ⟨k.val, lt_of_lt_of_le k.isLt hK⟩) := by
  unfold extractStridedSlice
  refine congrArg y ?_
  funext a
  apply Fin.ext
  match a with
  | ⟨0, _⟩ => exact Nat.zero_add _
  | ⟨1, _⟩ => exact Nat.zero_add _
  | ⟨2, _⟩ => exact Nat.zero_add _

variable (x : FVec Ideal (rows 4096) .f32) (h : (rows 4096).Slices (fun _ => 0) (rows K)) (hK : K ≤ 4096)

/-- A row's largest values: entry `k` is the row's entry at place `k` of its order. -/
theorem values_apply (b : Fin 2) (s : Fin 2048) (k : Fin K) :
    (Host.topK (rows K) 2 (FloatOps.cmpfTotal (F := Ideal) (φ := .f32) .gt) x h).1 (ix3 b s k)
      = x (ix3 b s (Peel.order (fun o => x (ix3 b s o)) ⟨k.val, lt_of_lt_of_le k.isLt hK⟩)) := by
  unfold Host.topK
  dsimp only
  rw [slice_apply _ h hK]
  unfold Host.sort2
  rw [dif_pos (show 2 < (rows 4096).rank by show 2 < 3; decide)]
  refine (congrArg x (along_eq b s _ _)).trans ?_
  refine congrArg (fun p => x (ix3 b s p)) ?_
  unfold Peel.order
  refine congrArg (fun r => sortedFrom r (⟨k.val, lt_of_lt_of_le k.isLt hK⟩ : Fin 4096)) ?_
  funext o o'
  exact congrArg₂ (fun p q => FloatOps.cmpfTotal (F := Ideal) (φ := .f32) .gt (x p) (x q) == 1#1) (along_eq b s _ o) (along_eq b s _ o')

/-- Their positions, as words. -/
theorem places_apply (b : Fin 2) (s : Fin 2048) (k : Fin K) :
    (Host.topK (rows K) 2 (FloatOps.cmpfTotal (F := Ideal) (φ := .f32) .gt) x h).2 (ix3 b s k)
      = BitVec.ofNat 32 (Peel.order (fun o => x (ix3 b s o)) ⟨k.val, lt_of_lt_of_le k.isLt hK⟩).val := by
  unfold Host.topK
  dsimp only
  rw [slice_apply _ h hK]
  unfold Host.sort2
  rw [dif_pos (show 2 < (rows 4096).rank by show 2 < 3; decide)]
  dsimp only
  rw [dif_pos (show 2 < (rows 4096).rank by show 2 < 3; decide)]
  refine (congrArg (iotaInDim (rows 4096) 32 (2 : Fin 3)) (along_eq b s _ _)).trans ?_
  unfold iotaInDim
  refine congrArg (fun p : Fin 4096 => BitVec.ofNat 32 p.val) ?_
  show _ = Peel.order _ _
  unfold Peel.order
  refine congrArg (fun r => sortedFrom r (⟨k.val, lt_of_lt_of_le k.isLt hK⟩ : Fin 4096)) ?_
  funext o o'
  exact congrArg₂ (fun p q => FloatOps.cmpfTotal (F := Ideal) (φ := .f32) .gt (x p) (x q) == 1#1) (along_eq b s _ o) (along_eq b s _ o')

end Cert.TopK

end
-- ==== Proof.Reference.lean ====
/- What the reference computes, entry by entry: the encoder's rows, their layer normalisation, each row's 32 largest
   entries with their positions, the decoder's rows at those positions, and their weighted sum. -/
module

public import proofs.«01_k».proof.Proof.Gen.ReferenceIdeal.Run
public import proofs.«01_k».proof.Proof.Peel
public import proofs.«01_k».proof.Proof.Row
public import proofs.«01_k».proof.Proof.TopK
public import Idealize.ShloMosaic.Lib.ReduceAll
public import Idealize.ShloMosaic.Lib.Pointwise
public import Idealize.ShloMosaic.Lib.Tactic

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert

/-- The encoder's output for all tokens. -/
def enc (x : FVec Ideal S2x2048x1024 .f32) (W : FVec Ideal S4096x1024 .f32) (b : FVec Ideal S4096 .f32) : FVec Ideal S2x2048x4096 .f32 :=
  addf (Host.dotGeneral dot_S2x2048x1024_S4096x1024_S2x2048x4096_2_1_01_0_n_n none x W)
    (broadcastInDim S2x2048x4096 ![0, 1, 2] bcast_S1x1x4096_S2x2048x4096_0_1_2 (broadcastInDim S1x1x4096 ![2] bcast_S4096_S1x1x4096_2 b))

/-- Every row's mean. -/
def mean (e : FVec Ideal S2x2048x4096 .f32) : FVec Ideal S2x2048x1 .f32 :=
  Host.divf (broadcastInDim S2x2048x1 ![0, 1] bcast_S2x2048_S2x2048x1_0_1 (Host.reduceAdd e (constant S_ .f32 0x00000000#32) reducesTo_S2x2048x4096_S2x2048_d2 h_S_))
    (broadcastInDim S2x2048x1 ![] bcast_S_S2x2048x1 (constant S_ .f32 0x45800000#32))

/-- Every entry's distance from its row's mean. -/
def dev (e : FVec Ideal S2x2048x4096 .f32) : FVec Ideal S2x2048x4096 .f32 :=
  subf e (broadcastInDim S2x2048x4096 ![0, 1, 2] bcast_S2x2048x1_S2x2048x4096_0_1_2 (mean e))

/-- The encoder's rows, normalised. -/
def norm (e : FVec Ideal S2x2048x4096 .f32) (w b : FVec Ideal S4096 .f32) : FVec Ideal S2x2048x4096 .f32 :=
  addf (mulf (Host.divf (dev e) (broadcastInDim S2x2048x4096 ![0, 1, 2] bcast_S2x2048x1_S2x2048x4096_0_1_2
      (Host.sqrt (addf (mean (mulf (dev e) (dev e))) (broadcastInDim S2x2048x1 ![] bcast_S_S2x2048x1 (constant S_ .f32 0x3727C5AC#32))))))
      (broadcastInDim S2x2048x4096 ![0, 1, 2] bcast_S1x1x4096_S2x2048x4096_0_1_2 (broadcastInDim S1x1x4096 ![2] bcast_S4096_S1x1x4096_2 w)))
    (broadcastInDim S2x2048x4096 ![0, 1, 2] bcast_S1x1x4096_S2x2048x4096_0_1_2 (broadcastInDim S1x1x4096 ![2] bcast_S4096_S1x1x4096_2 b))

/-- The 32 largest values of every row, one token a row. -/
def values (h : FVec Ideal S2x2048x4096 .f32) : FVec Ideal S4096x32 .f32 :=
  shapeCast S4096x32 (Host.topK S2x2048x32 2 (FloatOps.cmpfTotal (F := Ideal) (φ := .f32) .gt) h sliceFits_S2x2048x4096_S2x2048x32).1 shapeCasts_S2x2048x32_S4096x32

/-- Their positions. -/
def places (h : FVec Ideal S2x2048x4096 .f32) : IVec S4096x32 32 :=
  shapeCast S4096x32 (Host.topK S2x2048x32 2 (FloatOps.cmpfTotal (F := Ideal) (φ := .f32) .gt) h sliceFits_S2x2048x4096_S2x2048x32).2 shapeCasts_S2x2048x32_S4096x32

/-- A position as the take reads it: one below zero counts from the end. -/
def wrapped (p : IVec S4096x32 32) : IVec S4096x32x1 32 :=
  broadcastInDim S4096x32x1 ![0, 1] bcast_S4096x32_S4096x32x1_0_1
    (select (cmpi .slt p (broadcastInDim S4096x32 ![] bcast_S_S4096x32 (constantI S_ 32 0#32)))
      (addi p (broadcastInDim S4096x32 ![] bcast_S_S4096x32 (constantI S_ 32 4096#32))) p)

/-- Whether a position lies in the table. -/
def inside (q : IVec S4096x32x1 32) : IVec S4096x32 1 :=
  Host.reduce IntOp.andi (andi (cmpi .sge q (broadcastInDim S4096x32x1 ![] bcast_S_S4096x32x1 (constantI S_ 32 0#32)))
      (cmpi .sle q (broadcastInDim S4096x32x1 ![0, 1, 2] bcast_S1x1x1_S4096x32x1_0_1_2 (broadcastInDim S1x1x1 ![2] bcast_S1_S1x1x1_2 (constantI S1 32 4095#32)))))
    (constantI S_ 1 1#1) reducesTo_S4096x32x1_S4096x32_d2 h_S_

/-- The decoder's rows at the given positions. -/
def taken (p : IVec S4096x32 32) (D : FVec Ideal S1024x4096 .f32) : FVec Ideal S4096x32x1024 .f32 :=
  select (broadcastInDim S4096x32x1024 ![0, 1] bcast_S4096x32_S4096x32x1024_0_1 (inside (wrapped p)))
    (Host.gather gather_S4096x1024_S4096x32x1_S4096x32x1024_2_0_n_n_0_2_11024 (transpose S4096x1024 [1, 0] D transposes_S1024x4096_S4096x1024_1_0) (wrapped p))
    (broadcastInDim S4096x32x1024 ![] bcast_S_S4096x32x1024 (constant S_ .f32 0x7FC00000#32))

/-- The weighted sums of the decoder's rows, in the result's shape. -/
def decoded (h : FVec Ideal S2x2048x4096 .f32) (D : FVec Ideal S1024x4096 .f32) : FVec Ideal S2x2048x1024 .f32 :=
  shapeCast S2x2048x1024 (Host.dotGeneral dot_S4096x32_S4096x32x1024_S4096x1024_1_1_n_2_0_0 none (values h) (taken (places h) D)) shapeCasts_S4096x1024_S2x2048x1024

variable (m : (ℓ : Loc nD τ sig) → Buf (Elt Ideal) ℓ)

/-- The normalised rows of the program's arguments. -/
def hidden (c : Dev nD) : FVec Ideal S2x2048x4096 .f32 :=
  norm (enc (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4))

/-- The program's result, in these words. -/
theorem result_eq (c : Dev nD) : Value.res_out0 m c = decoded (hidden m c) (m ((c.tc : Thread nD τ).loc main_arg5)) := by
  unfold Value.res_out0 Value.res_main_v33
  rfl

/-- The encoder's output at an entry. -/
theorem enc_apply (x : FVec Ideal S2x2048x1024 .f32) (W : FVec Ideal S4096x1024 .f32) (b : FVec Ideal S4096 .f32)
    (i : Fin 2) (s : Fin 2048) (o : Fin 4096) :
    enc x W b (ix3 i s o) = Row.enc (fun k => x (ix3 i s k)) (fun o k => W (ix2 o k)) (fun o => b (ix1 o)) o := by
  unfold enc Row.enc
  pointwise

/-- A row's mean. -/
theorem mean_apply (e : FVec Ideal S2x2048x4096 .f32) (i : Fin 2) (s : Fin 2048) :
    mean e (ix3 i s 0) = Row.mean fun o => e (ix3 i s o) := by
  unfold mean Row.mean Row.width
  pointwise

/-- An entry's distance from its row's mean. -/
theorem dev_apply (e : FVec Ideal S2x2048x4096 .f32) (i : Fin 2) (s : Fin 2048) (o : Fin 4096) :
    dev e (ix3 i s o) = e (ix3 i s o) - Row.mean fun o => e (ix3 i s o) := by
  unfold dev
  pointwise
  rw [mean_apply]

/-- A normalised row at an entry. -/
theorem norm_apply (e : FVec Ideal S2x2048x4096 .f32) (w b : FVec Ideal S4096 .f32) (i : Fin 2) (s : Fin 2048) (o : Fin 4096) :
    norm e w b (ix3 i s o) = Row.normDiv (fun o => e (ix3 i s o)) (fun o => w (ix1 o)) (fun o => b (ix1 o)) o := by
  unfold norm Row.normDiv Row.var
  pointwise
  simp only [mean_apply, dev_apply]
  unfold Row.mean Row.eps
  pointwise
  simp only [dev_apply, Row.mean]

/-- Place `k` of the order of token `(i, s)`'s row. -/
abbrev place (h : FVec Ideal S2x2048x4096 .f32) (i : Fin 2) (s : Fin 2048) (k : Fin 32) : Fin 4096 :=
  Peel.order (fun o => h (ix3 i s o)) ⟨k.val, lt_of_lt_of_le k.isLt (by decide)⟩

/-- An array of rows of 32 with the tokens in one axis, read at an entry. -/
theorem flat_apply {α : Type} (y : S2x2048x32.Idx → α) (i : Fin 2) (s : Fin 2048) (k : Fin 32) (t : Fin 4096) (ht : t.val = i.val * 2048 + s.val) :
    shapeCast S4096x32 y shapeCasts_S2x2048x32_S4096x32 (ix2 t k) = y (ix3 i s k) := by
  pointwise
  have hs := s.isLt
  congr 2
  · exact Fin.ext (show t.val / 2048 = i.val by omega)
  · exact Fin.ext (show t.val % 2048 = s.val by omega)

variable (h : FVec Ideal S2x2048x4096 .f32) (D : FVec Ideal S1024x4096 .f32)

/-- The `k`-th largest value of a token's row. -/
theorem values_apply (i : Fin 2) (s : Fin 2048) (k : Fin 32) (t : Fin 4096) (ht : t.val = i.val * 2048 + s.val) :
    values h (ix2 t k) = h (ix3 i s (place h i s k)) := by
  unfold values
  exact (flat_apply _ i s k t ht).trans (TopK.values_apply h sliceFits_S2x2048x4096_S2x2048x32 (by decide) i s k)

/-- Its position. -/
theorem places_apply (i : Fin 2) (s : Fin 2048) (k : Fin 32) (t : Fin 4096) (ht : t.val = i.val * 2048 + s.val) :
    places h (ix2 t k) = BitVec.ofNat 32 (place h i s k).val := by
  unfold places
  exact (flat_apply _ i s k t ht).trans (TopK.places_apply h sliceFits_S2x2048x4096_S2x2048x32 (by decide) i s k)

/-- A word below 4096 is not negative, so it is not wrapped. -/
theorem wrap_word : ∀ o : Fin 4096, Scalar.select (IntOp.cmpi .slt (BitVec.ofNat 32 o.val) 0#32) (IntOp.addi (BitVec.ofNat 32 o.val) 4096#32)
    (BitVec.ofNat 32 o.val) = BitVec.ofNat 32 o.val := by decide +kernel

/-- A word below 4096 passes the bounds check. -/
theorem inside_word : ∀ o : Fin 4096, IntOp.andi (IntOp.cmpi .sge (BitVec.ofNat 32 o.val) 0#32) (IntOp.cmpi .sle (BitVec.ofNat 32 o.val) 4095#32)
    = 1#1 := by decide +kernel

/-- A position below 4096 is read as it is. -/
theorem wrapped_apply (p : IVec S4096x32 32) (t : Fin 4096) (k : Fin 32) (u : Fin 1) (o : Fin 4096) (hp : p (ix2 t k) = BitVec.ofNat 32 o.val) :
    wrapped p (ix3 t k u) = BitVec.ofNat 32 o.val := by
  unfold wrapped
  pointwise
  rw [hp]
  exact wrap_word o

/-- Positions below 4096 lie in the table. -/
theorem inside_eq_one (q : IVec S4096x32x1 32) (hq : ∀ j, ∃ o : Fin 4096, q j = BitVec.ofNat 32 o.val) (j : S4096x32.Idx) :
    inside q j = 1#1 := by
  unfold inside
  refine Host.reduce_andi_one _ _ _ _ _ rfl fun l => ?_
  obtain ⟨o, ho⟩ := hq l
  idx_vars l
  pointwise
  rw [ho]
  exact inside_word o

/-- The take at an entry. -/
theorem gather_apply (T : FVec Ideal S4096x1024 .f32) (q : IVec S4096x32x1 32) (t : Fin 4096) (k : Fin 32) (d : Fin 1024) (o : Fin 4096)
    (hq : q (ix3 t k 0) = BitVec.ofNat 32 o.val) :
    Host.gather gather_S4096x1024_S4096x32x1_S4096x32x1024_2_0_n_n_0_2_11024 T q (ix3 t k d) = T (ix2 o d) := by
  unfold Host.gather
  refine congrArg T ?_
  have hi : gather_S4096x1024_S4096x32x1_S4096x32x1024_2_0_n_n_0_2_11024.siIdx (ix3 t k d) ⟨0, by decide⟩ = ix3 t k 0 := by
    funext a
    match a with
    | ⟨0, _⟩ => rfl
    | ⟨1, _⟩ => rfl
    | ⟨2, _⟩ => rfl
  funext a
  apply Fin.ext
  match a with
  | ⟨0, _⟩ =>
    show min (q (gather_S4096x1024_S4096x32x1_S4096x32x1024_2_0_n_n_0_2_11024.siIdx (ix3 t k d) ⟨0, by decide⟩)).toInt.toNat (4096 - 1) + 0 + 0 = o.val
    rw [hi, hq]
    have ho := o.isLt
    rw [BitVec.toInt_eq_toNat_of_lt (by rw [BitVec.toNat_ofNat]; omega), BitVec.toNat_ofNat]
    omega
  | ⟨1, _⟩ =>
    show 0 + 0 + d.val = d.val
    omega

/-- The taken rows at an entry: the decoder's column at the position. -/
theorem taken_apply (p : IVec S4096x32 32) (hp : ∀ j, ∃ o : Fin 4096, p j = BitVec.ofNat 32 o.val) (t : Fin 4096) (k : Fin 32) (d : Fin 1024)
    (o : Fin 4096) (ho : p (ix2 t k) = BitVec.ofNat 32 o.val) : taken p D (ix3 t k d) = D (ix2 d o) := by
  have hin : ∀ j, inside (wrapped p) j = 1#1 := inside_eq_one _ fun j => by
    idx_vars j
    obtain ⟨o', ho'⟩ := hp (ix2 j0 j1)
    exact ⟨o', wrapped_apply p j0 j1 j2 o' ho'⟩
  unfold taken
  pointwise
  rw [hin, gather_apply _ _ t k d o (wrapped_apply p t k 0 o ho)]
  pointwise

/-- The result at an entry: the token's 32 largest values times the decoder's entries at their positions. -/
theorem decoded_apply (i : Fin 2) (s : Fin 2048) (d : Fin 1024) :
    decoded h D (ix3 i s d) = ∑ k : Fin 32, h (ix3 i s (place h i s k)) * D (ix2 d (place h i s k)) := by
  have hs := s.isLt
  have hi := i.isLt
  have hp : ∀ j, ∃ o : Fin 4096, places h j = BitVec.ofNat 32 o.val := fun j => by
    idx_vars j
    have h0 := j0.isLt
    exact ⟨_, places_apply h ⟨j0.val / 2048, by omega⟩ ⟨j0.val % 2048, Nat.mod_lt _ (by decide)⟩ j1 j0 (by dsimp only; omega)⟩
  unfold decoded
  pointwise
  refine Finset.sum_congr rfl fun k _ => ?_
  rw [values_apply h i s k _ rfl, taken_apply D _ hp _ k d _ (places_apply h i s k _ rfl)]

/-- A token's normalised row of the program's arguments. -/
theorem hidden_apply (c : Dev nD) (i : Fin 2) (s : Fin 2048) (o : Fin 4096) : hidden m c (ix3 i s o)
    = Row.normDiv (Row.enc (fun k : Fin 1024 => (m ((c.tc : Thread nD τ).loc main_arg0) : FVec Ideal S2x2048x1024 .f32) (ix3 i s k))
        (fun o k => (m ((c.tc : Thread nD τ).loc main_arg1) : FVec Ideal S4096x1024 .f32) (ix2 o k))
        (fun o => (m ((c.tc : Thread nD τ).loc main_arg2) : FVec Ideal S4096 .f32) (ix1 o)))
      (fun o => (m ((c.tc : Thread nD τ).loc main_arg3) : FVec Ideal S4096 .f32) (ix1 o))
      (fun o => (m ((c.tc : Thread nD τ).loc main_arg4) : FVec Ideal S4096 .f32) (ix1 o)) o := by
  unfold hidden
  rw [norm_apply]
  simp only [enc_apply]

end Cert.ReferenceIdeal.Read

end
-- ==== Proof.Distinct.lean ====
/- The precondition, read: in every token's normalised row the 33 largest entries strictly decrease. -/
module

public import proofs.«01_k».proof.Pre_top_distinct
public import proofs.«01_k».proof.Proof.Reference

@[expose] public section

set_option maxRecDepth 16384

noncomputable section

namespace Cert.Pre_top_distinct.Read

open Cert.Pre_top_distinct Idealize.ShloMosaic
open Cert

/-- The side conditions of the precondition's operations hold. -/
instance facts : Cert.Pre_top_distinct.Facts where
  bcast_S4096_S1x1x4096_2 := by decide
  bcast_S1x1x4096_S2x2048x4096_0_1_2 := by decide
  reducesTo_S2x2048x4096_S2x2048_d2 := by decide
  h_S_ := by decide
  bcast_S2x2048_S2x2048x1_0_1 := by decide
  bcast_S_S2x2048x1 := by decide
  bcast_S2x2048x1_S2x2048x4096_0_1_2 := by decide
  sliceFits_S2x2048x4096_S2x2048x33 := by decide
  slices_S2x2048x33_S2x2048x32_0_0_0 := by decide
  slices_S2x2048x33_S2x2048x32_0_0_1 := by decide
  dot_S2x2048x1024_S4096x1024_S2x2048x4096_2_1_01_0_n_n_wf := by decide

/-- The comparison the precondition makes of the sorted rows. -/
def compared (h : FVec Ideal S2x2048x4096 .f32) : IVec S2x2048x32 1 :=
  cmpf .ogt
    (extractStridedSlice S2x2048x32 ![0, 0, 0] (Host.topK S2x2048x33 2 (FloatOps.cmpfTotal (F := Ideal) (φ := .f32) .gt) h Facts.sliceFits_S2x2048x4096_S2x2048x33).1
      Facts.slices_S2x2048x33_S2x2048x32_0_0_0)
    (extractStridedSlice S2x2048x32 ![0, 0, 1] (Host.topK S2x2048x33 2 (FloatOps.cmpfTotal (F := Ideal) (φ := .f32) .gt) h Facts.sliceFits_S2x2048x4096_S2x2048x33).1
      Facts.slices_S2x2048x33_S2x2048x32_0_0_1)

/-- The precondition's function is that comparison on the reference's normalised rows. -/
theorem fn_eq (x : FVec Ideal S2x2048x1024 .f32) (W : FVec Ideal S4096x1024 .f32) (b lw lb : FVec Ideal S4096 .f32) (D : FVec Ideal S1024x4096 .f32) :
    fn (F := Ideal) x W b lw lb D = compared (ReferenceIdeal.Read.norm (ReferenceIdeal.Read.enc x W b) lw lb) := by
  rfl

/-- A bit made of a truth value is one only where it is true. -/
theorem of_ofBool {p : Bool} (h : BitVec.ofBool p = 1#1) : p = true := by
  cases p
  · exact absurd h (by decide)
  · rfl

/-- Where the comparison is one, the entry at a place is below the one before it. -/
theorem compared_apply (h : FVec Ideal S2x2048x4096 .f32) (hone : compared h = fun _ => 1#1) (i : Fin 2) (s : Fin 2048) :
    Peel.Distinct (fun o => h (ix3 i s o)) 31 (by decide) := by
  intro k
  have hk := congrFun hone (ix3 i s k)
  unfold compared at hk
  pointwise at hk
  have hlt := of_decide_eq_true (of_ofBool hk)
  have hv := fun k' : Fin 33 => TopK.values_apply h Facts.sliceFits_S2x2048x4096_S2x2048x33 (by decide) i s k'
  have h0 := (hv _).symm.trans_lt (hlt.trans_eq (hv _))
  have e : (⟨k.val + 1, by have := k.isLt; omega⟩ : Fin 4096) = ⟨1 + k.val, by have := k.isLt; omega⟩ :=
    Fin.ext (Nat.add_comm k.val 1)
  rw [e]
  exact h0

end Cert.Pre_top_distinct.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Reference
public import proofs.«01_k».proof.Proof.Distinct
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged and every counter at zero: it declares no semaphore. -/
theorem reference_frame : Cert.quiescent_ReferenceIdeal := fun m g _ =>
  θ_run_mono (Cert.ReferenceIdeal.Value.run m g) fun r h =>
    ⟨fun c => (h c).2, sem_eq_zero_of_no_sems (by decide) r.2⟩

/-- At every entry the two programs' results agree where each row's 33 largest entries strictly decrease: the kernel's
    masked product over all entries is the reference's sum over the 32 largest. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_top_distinct m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v33 m' c = Cert.KernelIdeal.Final.result m c := by
  refine (Cert.ReferenceIdeal.Read.result_eq m' c).trans (funext fun j => ?_)
  obtain ⟨i, s, d, rfl⟩ : ∃ (i : Fin 2) (s : Fin 2048) (d : Fin 1024), j = ix3 i s d := ⟨j 0, j 1, j 2, (ix3_eta j).symm⟩
  have hrow : (fun o => Cert.ReferenceIdeal.Read.hidden m' c (ix3 i s o)) = Cert.KernelIdeal.Final.rowOf m c i s := by
    funext o
    rw [Cert.ReferenceIdeal.Read.hidden_apply, h0, h1, h2, h3, h4]
    unfold Cert.KernelIdeal.Final.rowOf
    rw [Cert.Row.normMul_eq_normDiv]
  have hd : Cert.Peel.Distinct (Cert.KernelIdeal.Final.rowOf m c i s) 31 (by decide) := by
    rw [← hrow]
    unfold Cert.ReferenceIdeal.Read.hidden
    rw [h0, h1, h2, h3, h4]
    exact Cert.Pre_top_distinct.Read.compared_apply _ ((Cert.Pre_top_distinct.Read.fn_eq _ _ _ _ _ _).symm.trans (hpre c)) i s
  rw [Cert.ReferenceIdeal.Read.decoded_apply, Cert.KernelIdeal.Final.result_apply, h5]
  refine Eq.trans ?_ (Cert.Peel.masked_sum hd _).symm
  rw [← hrow]

/-- The two programs end with equal results. -/
theorem value : Cert.algebraic_KernelIdeal_ReferenceIdeal_pre_top_distinct := by
  intro m g m' g' hpre hagree
  refine ⟨fun c => Cert.KernelIdeal.Final.result m c, ?_, ?_⟩
  · exact θ_run_mono (θ_run_and (Cert.KernelIdeal.Final.run m g) (Cert.KernelIdeal.Gen.frame m g)) fun r h c => ⟨h.1 c, h.2.1 c⟩
  · refine θ_run_mono (Cert.ReferenceIdeal.Value.run m' g') fun r h c => ⟨(h c).1.trans ?_, (h c).2⟩
    obtain ⟨h0, h1, h2, h3, h4, h5⟩ := hagree c
    exact values_eq m m' hpre c h0 h1 h2 h3 h4 h5

/-- Every claim: the three programs run with their arguments kept and every counter back at zero, the kernel read at the
    extended reals is the kernel, and it equals the reference there. -/
theorem claim : Cert.Claim :=
  ⟨Cert.Kernel.Gen.facts, Cert.KernelIdeal.Gen.facts, Cert.ReferenceIdeal.Gen.facts, Cert.Pre_top_distinct.Read.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    value⟩

end Cert.Proof

end
